-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_3) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x16x256 : Shape := ⟨3, ![128, 16, 256]⟩
abbrev S16x256x256 : Shape := ⟨3, ![16, 256, 256]⟩
abbrev S4096x256 : Shape := ⟨2, ![4096, 256]⟩
abbrev S16x4096 : Shape := ⟨2, ![16, 4096]⟩
abbrev S_ : Shape := ⟨0, ![]⟩
abbrev S128x4096x256 : Shape := ⟨3, ![128, 4096, 256]⟩
abbrev S1x16x256 : Shape := ⟨3, ![1, 16, 256]⟩
abbrev S1x4096x256 : Shape := ⟨3, ![1, 4096, 256]⟩
abbrev S16x256 : Shape := ⟨2, ![16, 256]⟩
abbrev S1x256 : Shape := ⟨2, ![1, 256]⟩
abbrev S16 : Shape := ⟨1, ![16]⟩
abbrev S16x1 : Shape := ⟨2, ![16, 1]⟩
abbrev S16x128 : Shape := ⟨2, ![16, 128]⟩
abbrev S128x16 : Shape := ⟨2, ![128, 16]⟩
abbrev S16x8x16 : Shape := ⟨3, ![16, 8, 16]⟩
abbrev S1x8x16 : Shape := ⟨3, ![1, 8, 16]⟩
abbrev S8x16 : Shape := ⟨2, ![8, 16]⟩
abbrev S4x16 : Shape := ⟨2, ![4, 16]⟩
abbrev S2x16 : Shape := ⟨2, ![2, 16]⟩
abbrev S1x16 : Shape := ⟨2, ![1, 16]⟩
abbrev S16x256x1 : Shape := ⟨3, ![16, 256, 1]⟩
abbrev S16x1x256 : Shape := ⟨3, ![16, 1, 256]⟩
abbrev S4096x128 : Shape := ⟨2, ![4096, 128]⟩
abbrev S128x4096 : Shape := ⟨2, ![128, 4096]⟩
abbrev S16x8x4096 : Shape := ⟨3, ![16, 8, 4096]⟩
abbrev S1x8x4096 : Shape := ⟨3, ![1, 8, 4096]⟩
abbrev S8x4096 : Shape := ⟨2, ![8, 4096]⟩
abbrev S4x4096 : Shape := ⟨2, ![4, 4096]⟩
abbrev S2x4096 : Shape := ⟨2, ![2, 4096]⟩
abbrev S1x4096 : Shape := ⟨2, ![1, 4096]⟩
abbrev S4096x1 : Shape := ⟨2, ![4096, 1]⟩

abbrev nBuf : Space → Nat
  | .hbm => 32
  | .vmem => 9
  | .smem => 0
  | _ => 0

abbrev bufTy : (tb : Table) → Fin (tcTables nBuf tb) → BufTy
  | .hbm, ⟨0, _⟩ => ⟨S128x16x256, .f32⟩
  | .hbm, ⟨1, _⟩ => ⟨S16x256x256, .f32⟩
  | .hbm, ⟨2, _⟩ => ⟨S4096x256, .f32⟩
  | .hbm, ⟨3, _⟩ => ⟨S16x4096, .i32⟩
  | .hbm, ⟨4, _⟩ => ⟨S16x4096, .i32⟩
  | .hbm, ⟨5, _⟩ => ⟨S_, .i32⟩
  | .hbm, ⟨6, _⟩ => ⟨S_, .i32⟩
  | .hbm, ⟨7, _⟩ => ⟨S16x4096, .i32⟩
  | .hbm, ⟨8, _⟩ => ⟨S16x4096, .i32⟩
  | .hbm, ⟨9, _⟩ => ⟨S16x4096, .i32⟩
  | .hbm, ⟨10, _⟩ => ⟨S_, .i32⟩
  | .hbm, ⟨11, _⟩ => ⟨S16x4096, .i32⟩
  | .hbm, ⟨12, _⟩ => ⟨S16x4096, .i1⟩
  | .hbm, ⟨13, _⟩ => ⟨S16x4096, .i32⟩
  | .hbm, ⟨14, _⟩ => ⟨S16x4096, .i32⟩
  | .hbm, ⟨15, _⟩ => ⟨S_, .i32⟩
  | .hbm, ⟨16, _⟩ => ⟨S16x4096, .i32⟩
  | .hbm, ⟨17, _⟩ => ⟨S16x4096, .i1⟩
  | .hbm, ⟨18, _⟩ => ⟨S16x4096, .i1⟩
  | .hbm, ⟨19, _⟩ => ⟨S_, .i32⟩
  | .hbm, ⟨20, _⟩ => ⟨S16x4096, .i32⟩
  | .hbm, ⟨21, _⟩ => ⟨S16x4096, .i32⟩
  | .hbm, ⟨22, _⟩ => ⟨S16x4096, .i32⟩
  | .hbm, ⟨23, _⟩ => ⟨S16x4096, .i1⟩
  | .hbm, ⟨24, _⟩ => ⟨S_, .f32⟩
  | .hbm, ⟨25, _⟩ => ⟨S_, .f32⟩
  | .hbm, ⟨26, _⟩ => ⟨S16x4096, .f32⟩
  | .hbm, ⟨27, _⟩ => ⟨S16x4096, .f32⟩
  | .hbm, ⟨28, _⟩ => ⟨S16x4096, .f32⟩
  | .hbm, ⟨29, _⟩ => ⟨S16x4096, .f32⟩
  | .hbm, ⟨30, _⟩ => ⟨S128x16x256, .f32⟩
  | .hbm, ⟨31, _⟩ => ⟨S128x4096x256, .f32⟩
  | .local _ .vmem, ⟨0, _⟩ => ⟨S1x16x256, .f32⟩
  | .local _ .vmem, ⟨1, _⟩ => ⟨S1x16x256, .f32⟩
  | .local _ .vmem, ⟨2, _⟩ => ⟨S4096x256, .f32⟩
  | .local _ .vmem, ⟨3, _⟩ => ⟨S16x4096, .f32⟩
  | .local _ .vmem, ⟨4, _⟩ => ⟨S1x16x256, .f32⟩
  | .local _ .vmem, ⟨5, _⟩ => ⟨S1x16x256, .f32⟩
  | .local _ .vmem, ⟨6, _⟩ => ⟨S1x4096x256, .f32⟩
  | .local _ .vmem, ⟨7, _⟩ => ⟨S1x4096x256, .f32⟩
  | .local _ .vmem, ⟨8, _⟩ => ⟨S4096x256, .f32⟩
  | _, _ => ⟨S128x16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v3 : Ref sig .tc := ⟨.hbm, 22, rfl⟩
abbrev main_v4 : Ref sig .tc := ⟨.hbm, 23, rfl⟩
abbrev main_cst : Ref sig .tc := ⟨.hbm, 24, rfl⟩
abbrev main_cst_0 : Ref sig .tc := ⟨.hbm, 25, rfl⟩
abbrev main_call1_v0 : Ref sig .tc := ⟨.hbm, 26, rfl⟩
abbrev main_call1_v1 : Ref sig .tc := ⟨.hbm, 27, rfl⟩
abbrev main_v5 : Ref sig .tc := ⟨.hbm, 28, rfl⟩
abbrev main_v6 : Ref sig .tc := ⟨.hbm, 29, rfl⟩
abbrev main_v7_0 : Ref sig .tc := ⟨.hbm, 30, rfl⟩
abbrev main_v7_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S128x16x256 : Shape := ⟨3, ![128, 16, 256]⟩
abbrev S16x256x256 : Shape := ⟨3, ![16, 256, 256]⟩
abbrev S_ : Shape := ⟨0, ![]⟩
abbrev S128x16x256x256 : Shape := ⟨4, ![128, 16, 256, 256]⟩
abbrev S1x16x256 : Shape := ⟨3, ![1, 16, 256]⟩
abbrev S16x256 : Shape := ⟨2, ![16, 256]⟩
abbrev S16 : Shape := ⟨1, ![16]⟩
abbrev S16x1 : Shape := ⟨2, ![16, 1]⟩
abbrev S16x256x1 : Shape := ⟨3, ![16, 256, 1]⟩
abbrev S16x1x256 : Shape := ⟨3, ![16, 1, 256]⟩
abbrev S1x16x256x256 : Shape := ⟨4, ![1, 16, 256, 256]⟩
abbrev S128x4096x256 : Shape := ⟨3, ![128, 4096, 256]⟩

abbrev nBuf : Space → Nat
  | .hbm => 85
  | .vmem => 0
  | .smem => 0
  | _ => 0

abbrev bufTy : (tb : Table) → Fin (tcTables nBuf tb) → BufTy
  | .hbm, ⟨0, _⟩ => ⟨S128x16x256, .f32⟩
  | .hbm, ⟨1, _⟩ => ⟨S16x256x256, .f32⟩
  | .hbm, ⟨2, _⟩ => ⟨S_, .f32⟩
  | .hbm, ⟨3, _⟩ => ⟨S128x16x256, .f32⟩
  | .hbm, ⟨4, _⟩ => ⟨S_, .f32⟩
  | .hbm, ⟨5, _⟩ => ⟨S128x16x256x256, .f32⟩
  | .hbm, ⟨6, _⟩ => ⟨S_, .i32⟩
  | .hbm, ⟨7, _⟩ => ⟨S128x16x256, .f32⟩
  | .hbm, ⟨8, _⟩ => ⟨S_, .i32⟩
  | .hbm, ⟨9, _⟩ => ⟨S16x256x256, .f32⟩
  | .hbm, ⟨10, _⟩ => ⟨S128x16x256, .f32⟩
  | .hbm, ⟨11, _⟩ => ⟨S128x16x256x256, .f32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S1x16x256, .f32⟩
  | .hbm, ⟨17, _⟩ => ⟨S16x256, .f32⟩
  | .hbm, ⟨18, _⟩ => ⟨S16x256, .f32⟩
  | .hbm, ⟨19, _⟩ => ⟨S_, .f32⟩
  | .hbm, ⟨20, _⟩ => ⟨S16, .f32⟩
  | .hbm, ⟨21, _⟩ => ⟨S16x1, .f32⟩
  | .hbm, ⟨22, _⟩ => ⟨S_, .f32⟩
  | .hbm, ⟨23, _⟩ => ⟨S16x1, .f32⟩
  | .hbm, ⟨24, _⟩ => ⟨S16x1, .f32⟩
  | .hbm, ⟨25, _⟩ => ⟨S16x256, .f32⟩
  | .hbm, ⟨26, _⟩ => ⟨S16x256, .i1⟩
  | .hbm, ⟨27, _⟩ => ⟨S_, .f32⟩
  | .hbm, ⟨28, _⟩ => ⟨S_, .f32⟩
  | .hbm, ⟨29, _⟩ => ⟨S16x256, .f32⟩
  | .hbm, ⟨30, _⟩ => ⟨S16x256, .f32⟩
  | .hbm, ⟨31, _⟩ => ⟨S16x256, .f32⟩
  | .hbm, ⟨32, _⟩ => ⟨S16x256, .f32⟩
  | .hbm, ⟨33, _⟩ => ⟨S_, .f32⟩
  | .hbm, ⟨34, _⟩ => ⟨S16x256, .f32⟩
  | .hbm, ⟨35, _⟩ => ⟨S16x256, .f32⟩
  | .hbm, ⟨36, _⟩ => ⟨S_, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S16, .f32⟩
  | .hbm, ⟨41, _⟩ => ⟨S16x1, .f32⟩
  | .hbm, ⟨42, _⟩ => ⟨S16x256, .f32⟩
  | .hbm, ⟨43, _⟩ => ⟨S16x256, .f32⟩
  | .hbm, ⟨44, _⟩ => ⟨S16x256, .f32⟩
  | .hbm, ⟨45, _⟩ => ⟨S_, .f32⟩
  | .hbm, ⟨46, _⟩ => ⟨S16, .f32⟩
  | .hbm, ⟨47, _⟩ => ⟨S16x1, .f32⟩
  | .hbm, ⟨48, _⟩ => ⟨S16x256, .f32⟩
  | .hbm, ⟨49, _⟩ => ⟨S16x256, .f32⟩
  | .hbm, ⟨50, _⟩ => ⟨S16x256, .f32⟩
  | .hbm, ⟨51, _⟩ => ⟨S16x256x1, .f32⟩
  | .hbm, ⟨52, _⟩ => ⟨S16x1x256, .f32⟩
  | .hbm, ⟨53, _⟩ => ⟨S16x256x256, .f32⟩
  | .hbm, ⟨54, _⟩ => ⟨S16x256x256, .f32⟩
  | .hbm, ⟨55, _⟩ => ⟨S16x256x256, .f32⟩
  | .hbm, ⟨56, _⟩ => ⟨S_, .f32⟩
  | .hbm, ⟨57, _⟩ => ⟨S16x256x256, .f32⟩
  | .hbm, ⟨58, _⟩ => ⟨S16x256x256, .f32⟩
  | .hbm, ⟨59, _⟩ => ⟨S_, .f32⟩
  | .hbm, ⟨60, _⟩ => ⟨S16x256x256, .f32⟩
  | .hbm, ⟨61, _⟩ => ⟨S16x256x256, .f32⟩
  | .hbm, ⟨62, _⟩ => ⟨S16x256x256, .f32⟩
  | .hbm, ⟨63, _⟩ => ⟨S16x256x256, .f32⟩
  | .hbm, ⟨64, _⟩ => ⟨S_, .f32⟩
  | .hbm, ⟨65, _⟩ => ⟨S16x256, .f32⟩
  | .hbm, ⟨66, _⟩ => ⟨S16x256x1, .f32⟩
  | .hbm, ⟨67, _⟩ => ⟨S16x256x1, .f32⟩
  | .hbm, ⟨68, _⟩ => ⟨S_, .f32⟩
  | .hbm, ⟨69, _⟩ => ⟨S16x256x1, .f32⟩
  | .hbm, ⟨70, _⟩ => ⟨S16x256x1, .f32⟩
  | .hbm, ⟨71, _⟩ => ⟨S16x256x256, .f32⟩
  | .hbm, ⟨72, _⟩ => ⟨S16x256x256, .f32⟩
  | .hbm, ⟨73, _⟩ => ⟨S1x16x256, .f32⟩
  | .hbm, ⟨74, _⟩ => ⟨S_, .i32⟩
  | .hbm, ⟨75, _⟩ => ⟨S_, .i32⟩
  | .hbm, ⟨76, _⟩ => ⟨S128x16x256, .f32⟩
  | .hbm, ⟨77, _⟩ => ⟨S1x16x256x256, .f32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S128x16x256x256, .f32⟩
  | .hbm, ⟨82, _⟩ => ⟨S_, .i32⟩
  | .hbm, ⟨83, _⟩ => ⟨S_, .i32⟩
  | .hbm, ⟨84, _⟩ => ⟨S128x4096x256, .f32⟩
  | _, _ => ⟨S128x16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_c : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev main_while0c_c_5 : Ref sig .tc := ⟨.hbm, 12, rfl⟩
abbrev main_while0c_v4 : Ref sig .tc := ⟨.hbm, 13, rfl⟩
abbrev main_while0b_call0_c : Ref sig .tc := ⟨.hbm, 14, rfl⟩
abbrev main_while0b_call0_c_0 : Ref sig .tc := ⟨.hbm, 15, rfl⟩
abbrev main_while0b_call0_v0 : Ref sig .tc := ⟨.hbm, 16, rfl⟩
abbrev main_while0b_v4 : Ref sig .tc := ⟨.hbm, 17, rfl⟩
abbrev main_while0b_v5 : Ref sig .tc := ⟨.hbm, 18, rfl⟩
abbrev main_while0b_cst_5 : Ref sig .tc := ⟨.hbm, 19, rfl⟩
abbrev main_while0b_v6 : Ref sig .tc := ⟨.hbm, 20, rfl⟩
abbrev main_while0b_v7 : Ref sig .tc := ⟨.hbm, 21, rfl⟩
abbrev main_while0b_cst_6 : Ref sig .tc := ⟨.hbm, 22, rfl⟩
abbrev main_while0b_v8 : Ref sig .tc := ⟨.hbm, 23, rfl⟩
abbrev main_while0b_v9 : Ref sig .tc := ⟨.hbm, 24, rfl⟩
abbrev main_while0b_v10 : Ref sig .tc := ⟨.hbm, 25, rfl⟩
abbrev main_while0b_v11 : Ref sig .tc := ⟨.hbm, 26, rfl⟩
abbrev main_while0b_cst_7 : Ref sig .tc := ⟨.hbm, 27, rfl⟩
abbrev main_while0b_call1_v0 : Ref sig .tc := ⟨.hbm, 28, rfl⟩
abbrev main_while0b_call1_v1 : Ref sig .tc := ⟨.hbm, 29, rfl⟩
abbrev main_while0b_v12 : Ref sig .tc := ⟨.hbm, 30, rfl⟩
abbrev main_while0b_v13 : Ref sig .tc := ⟨.hbm, 31, rfl⟩
abbrev main_while0b_v14 : Ref sig .tc := ⟨.hbm, 32, rfl⟩
abbrev main_while0b_cst_8 : Ref sig .tc := ⟨.hbm, 33, rfl⟩
abbrev main_while0b_v15 : Ref sig .tc := ⟨.hbm, 34, rfl⟩
abbrev main_while0b_v16 : Ref sig .tc := ⟨.hbm, 35, rfl⟩
abbrev main_while0b_cst_9 : Ref sig .tc := ⟨.hbm, 36, rfl⟩
abbrev main_while0b_v17 : Ref sig .tc := ⟨.hbm, 37, rfl⟩
abbrev main_while0b_cst_10 : Ref sig .tc := ⟨.hbm, 38, rfl⟩
abbrev main_while0b_v18 : Ref sig .tc := ⟨.hbm, 39, rfl⟩
abbrev main_while0b_v19 : Ref sig .tc := ⟨.hbm, 40, rfl⟩
abbrev main_while0b_v20 : Ref sig .tc := ⟨.hbm, 41, rfl⟩
abbrev main_while0b_v21 : Ref sig .tc := ⟨.hbm, 42, rfl⟩
abbrev main_while0b_v22 : Ref sig .tc := ⟨.hbm, 43, rfl⟩
abbrev main_while0b_v23 : Ref sig .tc := ⟨.hbm, 44, rfl⟩
abbrev main_while0b_cst_11 : Ref sig .tc := ⟨.hbm, 45, rfl⟩
abbrev main_while0b_v24 : Ref sig .tc := ⟨.hbm, 46, rfl⟩
abbrev main_while0b_v25 : Ref sig .tc := ⟨.hbm, 47, rfl⟩
abbrev main_while0b_v26 : Ref sig .tc := ⟨.hbm, 48, rfl⟩
abbrev main_while0b_v27 : Ref sig .tc := ⟨.hbm, 49, rfl⟩
abbrev main_while0b_v28 : Ref sig .tc := ⟨.hbm, 50, rfl⟩
abbrev main_while0b_v29 : Ref sig .tc := ⟨.hbm, 51, rfl⟩
abbrev main_while0b_v30 : Ref sig .tc := ⟨.hbm, 52, rfl⟩
abbrev main_while0b_v31 : Ref sig .tc := ⟨.hbm, 53, rfl⟩
abbrev main_while0b_v32 : Ref sig .tc := ⟨.hbm, 54, rfl⟩
abbrev main_while0b_v33 : Ref sig .tc := ⟨.hbm, 55, rfl⟩
abbrev main_while0b_cst_12 : Ref sig .tc := ⟨.hbm, 56, rfl⟩
abbrev main_while0b_v34 : Ref sig .tc := ⟨.hbm, 57, rfl⟩
abbrev main_while0b_v35 : Ref sig .tc := ⟨.hbm, 58, rfl⟩
abbrev main_while0b_cst_13 : Ref sig .tc := ⟨.hbm, 59, rfl⟩
abbrev main_while0b_v36 : Ref sig .tc := ⟨.hbm, 60, rfl⟩
abbrev main_while0b_v37 : Ref sig .tc := ⟨.hbm, 61, rfl⟩
abbrev main_while0b_v38 : Ref sig .tc := ⟨.hbm, 62, rfl⟩
abbrev main_while0b_call2_v0 : Ref sig .tc := ⟨.hbm, 63, rfl⟩
abbrev main_while0b_call2_cst : Ref sig .tc := ⟨.hbm, 64, rfl⟩
abbrev main_while0b_call2_v1 : Ref sig .tc := ⟨.hbm, 65, rfl⟩
abbrev main_while0b_call2_v2 : Ref sig .tc := ⟨.hbm, 66, rfl⟩
abbrev main_while0b_v39 : Ref sig .tc := ⟨.hbm, 67, rfl⟩
abbrev main_while0b_cst_14 : Ref sig .tc := ⟨.hbm, 68, rfl⟩
abbrev main_while0b_v40 : Ref sig .tc := ⟨.hbm, 69, rfl⟩
abbrev main_while0b_v41 : Ref sig .tc := ⟨.hbm, 70, rfl⟩
abbrev main_while0b_v42 : Ref sig .tc := ⟨.hbm, 71, rfl⟩
abbrev main_while0b_v43 : Ref sig .tc := ⟨.hbm, 72, rfl⟩
abbrev main_while0b_call3_v0 : Ref sig .tc := ⟨.hbm, 73, rfl⟩
abbrev main_while0b_call3_c : Ref sig .tc := ⟨.hbm, 74, rfl⟩
abbrev main_while0b_call3_c_0 : Ref sig .tc := ⟨.hbm, 75, rfl⟩
abbrev main_while0b_v44 : Ref sig .tc := ⟨.hbm, 76, rfl⟩
abbrev main_while0b_call4_v0 : Ref sig .tc := ⟨.hbm, 77, rfl⟩
abbrev main_while0b_call4_c : Ref sig .tc := ⟨.hbm, 78, rfl⟩
abbrev main_while0b_call4_c_0 : Ref sig .tc := ⟨.hbm, 79, rfl⟩
abbrev main_while0b_call4_c_1 : Ref sig .tc := ⟨.hbm, 80, rfl⟩
abbrev main_while0b_v45 : Ref sig .tc := ⟨.hbm, 81, rfl⟩
abbrev main_while0b_c_15 : Ref sig .tc := ⟨.hbm, 82, rfl⟩
abbrev main_while0b_v46 : Ref sig .tc := ⟨.hbm, 83, rfl⟩
abbrev main_v3 : Ref sig .tc := ⟨.hbm, 84, rfl⟩

abbrev nD : Nat := 1
abbrev τ : Topo := Topo.v7x

variable {F : FTy → Type} [FloatOps F]

abbrev main_while0_count : Scf.Loop 32 := ⟨0#32, 128#32, 1#32⟩
-- ==== Proof.Math.lean ====
/-
  One step of the recurrence over the extended reals, written on plain functions of coordinates: a batch entry
  `b < 16`, a pattern `p < 256`, a feature `h < 256`. `P b p h` is the stored patterns, `x b h` the step's input.
  Both programs' steps are read down to `stepPat` and `stepOut`. The file also holds the two laws of arithmetic
  by which the kernel's step differs from the reference's: a sum of 256 terms taken by halves and then pairwise
  (`tree_sum`), and a product with a reciprocal in place of a quotient (`mul_recip`).
-/
module

public import Idealize.ShloMosaic.Lib.Pointwise

@[expose] public section

noncomputable section

namespace Cert.Proof.Math

open Idealize.ShloMosaic

/-- The patterns: a value per batch entry, pattern and feature. -/
abbrev Pats := Fin 16 → Fin 256 → Fin 256 → EReal
/-- A value per batch entry and pattern, or per batch entry and feature. -/
abbrev Rows := Fin 16 → Fin 256 → EReal

/-- The similarity of each pattern with the input. -/
def raw (P : Pats) (x : Rows) : Rows := fun b p => ∑ h, P b p h * x b h

/-- Each batch entry's largest value. -/
def top (r : Rows) (b : Fin 16) : EReal := Finset.univ.fold max (Ideal.ofBits .f32 0xFF800000#32) fun p => r b p

/-- The similarities with those below nine tenths of the largest put to zero, over the largest, times ten. -/
def logit (r : Rows) : Rows := fun b p =>
  Ideal.div (if Ideal.ofBits .f32 0x3F666666#32 * top r b ≤ r b p then r b p else 0) (top r b)
    * Ideal.ofBits .f32 0x41200000#32

/-- The exponential of each value less the largest. -/
def shifted (z : Rows) : Rows := fun b p => Ideal.exp (z b p - top z b)

/-- The response of each pattern: the softmax of the logits. -/
def resp (P : Pats) (x : Rows) : Rows := fun b p =>
  Ideal.div (shifted (logit (raw P x)) b p) (∑ q, shifted (logit (raw P x)) b q)

/-- The patterns moved towards the input by their responses, before they are normalized. -/
def moved (P : Pats) (x : Rows) (r : Rows) : Pats := fun b p h =>
  Ideal.ofBits .f32 0x3F7FBE77#32 * P b p h + r b p * x b h

/-- The length of a pattern, plus the small constant that keeps it off zero. -/
def length (N : Pats) : Rows := fun b p =>
  Ideal.sqrt (∑ h, N b p h * N b p h) + Ideal.ofBits .f32 0x2EDBE6FF#32

/-- The step's new patterns. -/
def stepPat (P : Pats) (x : Rows) : Pats := fun b p h =>
  Ideal.div (moved P x (resp P x) b p h) (length (moved P x (resp P x)) b p)

/-- The step's output: the patterns weighted by their responses. -/
def stepOut (P : Pats) (x : Rows) : Rows := fun b h => ∑ p, P b p h * resp P x b p

/-- The patterns before step `n`, starting from `P` and an input per step. -/
def pats (P : Pats) (x : ℕ → Rows) : ℕ → Pats
  | 0 => P
  | n + 1 => stepPat (pats P x n) (x n)

/-- The initial patterns, of the array given. -/
def given (A : (⟨3, ![16, 256, 256]⟩ : Shape).Idx → EReal) : Pats := fun b p h => A (ix3 b p h)

/-- The input of step `n`, of the array of 128 inputs. -/
def inputs (A : (⟨3, ![128, 16, 256]⟩ : Shape).Idx → EReal) (n : ℕ) : Rows :=
  fun b h => A (ix3 ⟨n % 128, Nat.mod_lt _ (by decide)⟩ b h)

/-- The small constant is positive and finite. -/
theorem eps_pos : ∃ e : ℝ, 0 < e ∧ Ideal.ofBits .f32 0x2EDBE6FF#32 = (e : EReal) := by
  refine ⟨_, ?_, by simp [Ideal.ofBits, Ideal.ieee, -EReal.coe_mul]; rfl⟩
  norm_num

/-- A length is never zero. -/
theorem sqrt_add_eps_ne (s : EReal) : Ideal.sqrt s + Ideal.ofBits .f32 0x2EDBE6FF#32 ≠ 0 := by
  obtain ⟨e, he, h⟩ := eps_pos
  rw [h]
  induction s using EReal.rec with
  | bot => simp
  | top => simp
  | coe r =>
    rw [Ideal.sqrt_coe]
    split
    · simp
    · rw [← EReal.coe_add, ← EReal.coe_zero, Ne, EReal.coe_eq_coe_iff]
      have := Real.sqrt_nonneg r
      linarith

/-- Off a zero denominator, to multiply by the reciprocal is to divide. -/
theorem mul_recip (a d : EReal) (hd : d ≠ 0) : a * Ideal.div 1 d = Ideal.div a d := by
  simp [Ideal.div, hd]

/-- The sixteen terms of a sum of 128 whose position is `s` modulo eight. -/
def group (f : Fin 128 → EReal) (s : Fin 8) : EReal :=
    f ⟨0 + s.val, by omega⟩ + f ⟨8 + s.val, by omega⟩ + f ⟨16 + s.val, by omega⟩ + f ⟨24 + s.val, by
    omega⟩ + f ⟨32 + s.val, by omega⟩ + f ⟨40 + s.val, by omega⟩ + f ⟨48 + s.val, by omega⟩ + f ⟨56 +
    s.val, by omega⟩ + f ⟨64 + s.val, by omega⟩ + f ⟨72 + s.val, by omega⟩ + f ⟨80 + s.val, by omega⟩ +
    f ⟨88 + s.val, by omega⟩ + f ⟨96 + s.val, by omega⟩ + f ⟨104 + s.val, by omega⟩ + f ⟨112 + s.val, by
    omega⟩ + f ⟨120 + s.val, by omega⟩

/-- A sum of 128 terms, taken as sixteen groups of eight: first over the groups, then by halves. -/
theorem tree_sum (f : Fin 128 → EReal) :
    ((group f 0 + group f 4) + (group f 2 + group f 6)) + ((group f 1 + group f 5) + (group f 3 + group f 7))
      = ∑ l, f l := by
  have hs : ∀ s : Fin 8, group f s = ∑ a : Fin 16, f ⟨a.val * 8 + s.val, by omega⟩ := fun s => by
    simp only [Fin.sum_univ_castSucc, Fin.sum_univ_zero, zero_add]
    rfl
  rw [Fin.sum_univ_tiles 16 8 rfl f, Finset.sum_comm]
  simp only [← hs, Fin.sum_univ_eight]
  abel

/-- A sum of 256 terms is the sum of 128 pairs, a term of the first half and one of the second. -/
theorem sum_halves (g : Fin 256 → EReal) :
    ∑ l : Fin 128, (g ⟨l.val, by omega⟩ + g ⟨128 + l.val, by omega⟩) = ∑ h, g h := by
  rw [Fin.sum_univ_two_halves 128 128 rfl g, Finset.sum_add_distrib]

end Cert.Proof.Math

end
-- ==== Proof.KStep.lean ====
/-
  One grid point of the kernel, read at an index down to `stepPat` and `stepOut` (`Math`). The kernel keeps the
  patterns as one matrix of 4096 lines. Its similarities are the diagonal blocks of one product; its output is a product
  with the responses repeated along every block and masked to the batch entry's own; its sums of squares run
  over a transposed matrix, by halves and then pairwise; and it multiplies by the reciprocal of the length.
-/
module

public import proofs.«01_k».proof.Proof.Math
public import proofs.«01_k».proof.Proof.Gen.KernelIdeal.Skeleton
public import proofs.«01_k».proof.Proof.Gen.KernelIdeal
public import Idealize.ShloMosaic.Lib.Pipeline.ValueKit
public import Idealize.ShloMosaic.Lib.Pipeline.Value

@[expose] public section

set_option maxRecDepth 16384

noncomputable section

namespace Cert.Proof.KStep

open Idealize.ShloMosaic Cert.KernelIdeal Cert.KernelIdeal.Gen
open Cert.Proof.Math

/-- Pattern `p` of batch entry `b` is row `256 b + p` of the stored matrix. -/
def line (b : Fin 16) (p : Fin 256) : Fin 4096 := ⟨b.val * 256 + p.val, by omega⟩

/-- Every row of the stored matrix is a pattern's. -/
theorem exists_line (k : Fin 4096) : ∃ (b : Fin 16) (p : Fin 256), k = line b p :=
  ⟨⟨k.val / 256, by omega⟩, ⟨k.val % 256, by omega⟩, Fin.ext (show k.val = k.val / 256 * 256 + k.val % 256 by omega)⟩

/-- The stored patterns, by coordinates. -/
def P (S : Vec Ideal S4096x256 .f32) : Pats := fun b p h => S (ix2 (line b p) h)
/-- The step's input, by coordinates. -/
def x (X : Vec Ideal S1x16x256 .f32) : Rows := fun b h => X (ix3 0 b h)

variable (S : Vec Ideal S4096x256 .f32) (X : Vec Ideal S1x16x256 .f32)

/-- The sixteen diagonal blocks of the one product of all inputs with all patterns, stacked, are the similarities;
    the exponentials follow from them. -/
theorem exps_apply (b : Fin 16) (p : Fin 256) :
    k0_pay7 S X (ix2 b p) = shifted (logit (raw (P S) (x X))) b p := by
  dsimp only [k0_pay7, k0_pay6]
  generalize hV : matmul (F := Ideal) (φ₁ := .f32) (φ₂ := .f32) dot_S16x256_S4096x256_S16x4096_1_1_0_0_n_n none _ _ _ = V
  generalize hC : concatenate S16x256 0 _ _ = C
  have hr : ∀ (b : Fin 16) (p : Fin 256), C (ix2 b p) = raw (P S) (x X) b p := by
    intro b p
    rw [← hC]
    have hD : V (ix2 b (line b p)) = raw (P S) (x X) b p := by
      rw [← hV]
      pointwise
      exact Finset.sum_congr rfl fun h _ => mul_comm _ _
    rw [← hD]
    concat_tiles i h
    all_goals
      clear hC hD hV
      idx_vars i
      pointwise at h h1
      pointwise
      blk_ext [line]
  clear hC
  pointwise [hr]
  rfl

/-- The exponentials summed by halves, then over the transposed matrix. -/
theorem pay8_apply (l : Fin 128) (b : Fin 16) :
    k0_pay8 S X (ix2 l b) = k0_pay7 S X (ix2 b ⟨l.val, by omega⟩) + k0_pay7 S X (ix2 b ⟨128 + l.val, by omega⟩) := by
  pointwise [k0_pay8]

/-- Each value over the sum of its row, the sum taken pairwise down the transposed matrix. -/
theorem pay9_apply (E : FVec Ideal S16x256 .f32) (H : FVec Ideal S128x16 .f32) (b : Fin 16) (p : Fin 256) :
    k0_pay9 E H (ix2 b p) = Ideal.div (E (ix2 b p)) (∑ l : Fin 128, H (ix2 l b)) := by
  rw [← tree_sum fun l => H (ix2 l b)]
  pointwise [k0_pay9]
  rfl

/-- The responses. -/
theorem resp_apply (b : Fin 16) (p : Fin 256) :
    k0_pay9 (k0_pay7 S X) (k0_pay8 S X) (ix2 b p) = resp (P S) (x X) b p := by
  rw [pay9_apply]
  simp only [pay8_apply, exps_apply, sum_halves]
  rfl

/-- A sum over all stored lines is a sum over batch entries and patterns. -/
theorem sum_line (f : Fin 4096 → EReal) : ∑ k, f k = ∑ b, ∑ p, f (line b p) :=
  Fin.sum_univ_tiles 16 256 rfl f

/-- The kernel's output: the one product of the masked responses with all patterns. A mask that is one on the
    lines of its own batch entry and zero elsewhere leaves that entry's patterns alone. -/
theorem out_apply (R : FVec Ideal S16x256 .f32) (M : Vec Ideal S16x4096 .f32)
    (hM : ∀ (b c : Fin 16) (p : Fin 256), M (ix2 b (line c p)) = if c = b then 1 else 0) (b : Fin 16) (h : Fin 256) :
    k0_pay10 S R M (ix2 b h) = ∑ p, S (ix2 (line b p) h) * R (ix2 b p) := by
  dsimp only [k0_pay10]
  generalize hC : concatenate S16x4096 1 _ _ = C
  have hr : ∀ (b c : Fin 16) (p : Fin 256), C (ix2 b (line c p)) = R (ix2 b p) := by
    intro b c p
    rw [← hC]
    refine concatenate_replicate_apply (1 : Fin S16x4096.rank) 16 R _ rfl (ix2 b (line c p)) (ix2 b p) ?_ ?_
    · show p.val = (line c p).val % 256
      simp only [line]
      omega
    · intro a ha
      match a with
      | ⟨0, _⟩ => rfl
      | ⟨1, _⟩ => exact absurd rfl ha
  clear hC
  pointwise
  rw [sum_line, Finset.sum_eq_single b]
  · refine Finset.sum_congr rfl fun p _ => ?_
    rw [hr, hM, if_pos rfl, mul_one, mul_comm]
  · intro c _ hc
    refine Finset.sum_eq_zero fun p _ => ?_
    rw [hM, if_neg hc, mul_zero, zero_mul]
  · exact fun hb => absurd (Finset.mem_univ b) hb

/-- The patterns moved towards the input, line by line. -/
theorem moved_apply (R : FVec Ideal S16x256 .f32) (b : Fin 16) (p h : Fin 256) :
    k0_pay11 S (k0_pay6 X) R (ix2 (line b p) h) = moved (P S) (x X) (fun b p => R (ix2 b p)) b p h := by
  have hd : (line b p).val / 256 = b.val := by simp only [line]; omega
  have hm : (line b p).val % 256 = p.val := by simp only [line]; omega
  pointwise [k0_pay11, k0_pay6]
  simp only [hd, hm]
  rfl

/-- The squares of a line, summed by halves over the transposed matrix. -/
theorem squares_apply (Y R : FVec Ideal S16x256 .f32) (j : Fin 16) (s : Fin 8) (k : Fin 4096) :
    k0_pay12 S Y R (ix3 j s k)
      = (fun l : Fin 128 =>
          (fun h => k0_pay11 S Y R (ix2 k h) * k0_pay11 S Y R (ix2 k h)) ⟨l.val, by omega⟩
            + (fun h => k0_pay11 S Y R (ix2 k h) * k0_pay11 S Y R (ix2 k h)) ⟨128 + l.val, by omega⟩)
          ⟨j.val * 8 + s.val, by omega⟩ := by
  pointwise [k0_pay12]

/-- A line over its length: the kernel multiplies by the reciprocal of the length. -/
theorem normalized_apply (Y R : FVec Ideal S16x256 .f32) (k : Fin 4096) (h : Fin 256) :
    k0_pay1 (k0_pay11 S Y R) (k0_pay12 S Y R) (k0_pay13 S Y R) (k0_pay14 S Y R) (ix2 k h)
      = Ideal.div (k0_pay11 S Y R (ix2 k h))
          (Ideal.sqrt (∑ h, k0_pay11 S Y R (ix2 k h) * k0_pay11 S Y R (ix2 k h)) + Ideal.ofBits .f32 0x2EDBE6FF#32) := by
  rw [← mul_recip _ _ (sqrt_add_eps_ne _), ← sum_halves, ← tree_sum]
  pointwise [k0_pay1, k0_pay13, k0_pay14, squares_apply]
  rfl

/-- The responses of a step, by the kernel's payloads. -/
abbrev R : FVec Ideal S16x256 .f32 := k0_pay9 (k0_pay7 S X) (k0_pay8 S X)

/-- The step's new patterns, line by line. -/
abbrev N : FVec Ideal S4096x256 .f32 :=
  k0_pay1 (k0_pay11 S (k0_pay6 X) (R S X)) (k0_pay12 S (k0_pay6 X) (R S X)) (k0_pay13 S (k0_pay6 X) (R S X)) (k0_pay14 S (k0_pay6 X) (R S X))

/-- The new patterns are the step's. -/
theorem N_apply (b : Fin 16) (p h : Fin 256) : N S X (ix2 (line b p) h) = stepPat (P S) (x X) b p h := by
  have hR : (fun b p => R S X (ix2 b p)) = resp (P S) (x X) := funext fun b => funext fun p => resp_apply S X b p
  rw [N, normalized_apply]
  simp only [moved_apply, hR]
  rfl

/-- The same, of all of them. -/
theorem P_N : P (N S X) = stepPat (P S) (x X) :=
  funext fun b => funext fun p => funext fun h => N_apply S X b p h

/-- The step's output. -/
theorem O_apply (M : Vec Ideal S16x4096 .f32)
    (hM : ∀ (b c : Fin 16) (p : Fin 256), M (ix2 b (line c p)) = if c = b then 1 else 0) (b : Fin 16) (h : Fin 256) :
    k0_pay10 S (R S X) M (ix2 b h) = stepOut (P S) (x X) b h := by
  rw [out_apply S _ M hM]
  simp only [resp_apply]
  rfl

/-- What a step over the patterns `S`, the input `X` and the mask `M` leaves: the output's block, the block of new
    patterns, and the patterns kept for the next step. -/
abbrev step (M : Vec Ideal S16x4096 .f32) : Vec Ideal S1x16x256 .f32 × Vec Ideal S1x4096x256 .f32 × Vec Ideal S4096x256 .f32 :=
  (k0_pay3 (k0_pay10 S (R S X) M),
   k0_pay4 (k0_pay11 S (k0_pay6 X) (R S X)) (k0_pay12 S (k0_pay6 X) (R S X)) (k0_pay13 S (k0_pay6 X) (R S X)) (k0_pay14 S (k0_pay6 X) (R S X)),
   k0_pay2 (k0_pay11 S (k0_pay6 X) (R S X)) (k0_pay12 S (k0_pay6 X) (R S X)) (k0_pay13 S (k0_pay6 X) (R S X)) (k0_pay14 S (k0_pay6 X) (R S X)))

/-- The output's block holds the step's output. -/
theorem step_out (M : Vec Ideal S16x4096 .f32)
    (hM : ∀ (b c : Fin 16) (p : Fin 256), M (ix2 b (line c p)) = if c = b then 1 else 0) (b : Fin 16) (h : Fin 256) :
    (step S X M).1 (ix3 0 b h) = stepOut (P S) (x X) b h := by
  rw [← O_apply S X M hM]
  pointwise [k0_pay3]

/-- The block of new patterns holds the step's new patterns. -/
theorem step_pats (M : Vec Ideal S16x4096 .f32) (b : Fin 16) (p h : Fin 256) :
    (step S X M).2.1 (ix3 0 (line b p) h) = stepPat (P S) (x X) b p h := by
  rw [← N_apply S X]
  pointwise [k0_pay4]

/-- So do the patterns kept. -/
theorem step_kept (M : Vec Ideal S16x4096 .f32) : P (step S X M).2.2 = stepPat (P S) (x X) := by
  rw [← P_N S X]
  simp only [step, k0_pay2, shapeCast_self]

end Cert.Proof.KStep

end
-- ==== Proof.KRun.lean ====
/-
  The kernel's run. The region's three operands are read at an index: the input of the step, the given patterns as
  lines of a matrix, and the mask that selects a batch entry's columns. Then what each grid point leaves is one `step`
  over what the point before it left, and so by induction the patterns after `n` steps of the recurrence; last, the
  two result arrays.
-/
module

public import proofs.«01_k».proof.Proof.KStep
public import proofs.«01_k».proof.Proof.Gen.KernelIdeal.Value
public import Idealize.ShloMosaic.Lib.Pipeline.ValueKit
public import Idealize.ShloMosaic.Lib.Pipeline.ReadBack
public import Idealize.ShloMosaic.Lib.Claim
public import Idealize.ShloMosaic.Lib.Tactic.CleanTypes

@[expose] public section

set_option maxRecDepth 16384

noncomputable section

namespace Cert.Proof.KRun

open Idealize.ShloMosaic Idealize.ShloMosaic.TcCoe Idealize.SL.Sem Cert.KernelIdeal Cert.KernelIdeal.Gen Cert.KernelIdeal.Value
open Cert.Proof.Math Cert.Proof.KStep

variable (m : (ℓ : Loc nD τ sig) → Buf (Elt Ideal) ℓ)

/-- The input's block follows the grid point; the patterns and the mask are one block each. -/
theorem idx0 : ∀ t : Fin cfg0.N, win0_0.index t = ![t.val, 0, 0] ∧ win0_1.index t = ![0, 0] ∧ win0_2.index t = ![0, 0] :=
  (by decide +kernel : ∀ t : Fin grid0.N, win0_0.index t = ![t.val, 0, 0] ∧ win0_1.index t = ![0, 0] ∧ win0_2.index t = ![0, 0])

/-- The number of a mask's column over 256, as the host line computes it: the quotient of the words, less one where their
    signs differ and the remainder is not zero. -/
def quotient : IVec S16x4096 32 :=
  let k : IVec S16x4096 32 := iotaInDim S16x4096 32 1
  let n : IVec S16x4096 32 := broadcastInDim S16x4096 ![] bcast_S_S16x4096 (constantI S_ 32 256#32)
  select (andi (cmpi .ne (signi k) (broadcastInDim S16x4096 ![] bcast_S_S16x4096 (signi (constantI S_ 32 256#32))))
      (cmpi .ne (Host.remsi k n) (broadcastInDim S16x4096 ![] bcast_S_S16x4096 (constantI S_ 32 0#32))))
    (subi (Host.divsi k n) (broadcastInDim S16x4096 ![] bcast_S_S16x4096 (constantI S_ 32 1#32))) (Host.divsi k n)

/-- The quotient's word is the quotient of the numbers. -/
theorem quotient_apply (b : Fin 16) (k : Fin 4096) : quotient (ix2 b k) = BitVec.ofNat 32 (k.val / 256) := by
  pointwise [quotient]
  exact (by decide +kernel : ∀ k : Fin 4096,
    Scalar.select
      (IntOp.andi
        (IntOp.cmpi .ne (if BitVec.ofNat 32 k.val = 0 then 0 else if (BitVec.ofNat 32 k.val).msb = true then -1 else 1)
          (if 256#32 = 0 then 0 else if (256#32).msb = true then -1 else 1))
        (IntOp.cmpi .ne (IntOp.remsi .host (BitVec.ofNat 32 k.val) 256#32) 0#32))
      (IntOp.subi (IntOp.divsi .host (BitVec.ofNat 32 k.val) 256#32) 1#32)
      (IntOp.divsi .host (BitVec.ofNat 32 k.val) 256#32) = BitVec.ofNat 32 (k.val / 256)) k

/-- The mask at `(b, k)`: one where column `k` belongs to batch entry `b`, zero elsewhere. -/
theorem mask_apply (c : Dev nD) (b : Fin 16) (k : Fin 4096) :
    (show S16x4096.Idx → EReal from V m c main_v6) (ix2 b k) = if k.val / 256 = b.val then 1 else 0 := by
  show V m c main_v6 (ix2 b k) = _
  simp only [V, List.flatten_cons, List.flatten_nil, List.cons_append, List.nil_append]
  entry_read
  show select (cmpi .eq quotient (iotaInDim S16x4096 32 0))
    (broadcastInDim S16x4096 ![] bcast_S_S16x4096 (constant (F := Ideal) S_ .f32 0x3F800000#32))
    (broadcastInDim S16x4096 ![] bcast_S_S16x4096 (constant (F := Ideal) S_ .f32 0x00000000#32)) (ix2 b k) = _
  pointwise [quotient_apply]
  have hw : BitVec.ofNat 32 (k.val / 256) = BitVec.ofNat 32 b.val ↔ k.val / 256 = b.val := by
    rw [← BitVec.toNat_inj, BitVec.toNat_ofNat, BitVec.toNat_ofNat]
    omega
  by_cases hb : k.val / 256 = b.val
  · rw [if_pos hb, hb]
    simp [IntOp.cmpi, Scalar.select]
  · rw [if_neg hb]
    have hn : (BitVec.ofNat 32 (k.val / 256) == BitVec.ofNat 32 b.val) = false := by
      rw [beq_eq_false_iff_ne, Ne, hw]
      exact hb
    simp [IntOp.cmpi, Scalar.select, hn]

/-- The matrix the region starts from holds the given patterns line by line. -/
theorem lines_apply (c : Dev nD) (b : Fin 16) (p h : Fin 256) :
    (show S4096x256.Idx → EReal from V m c main_v0) (ix2 (line b p) h)
      = (m ((c : Thread nD τ).loc main_arg1) : S16x256x256.Idx → EReal) (ix3 b p h) := by
  have hd : (line b p).val / 256 = b.val := by simp only [line]; omega
  have hm : (line b p).val % 256 = p.val := by simp only [line]; omega
  show V m c main_v0 (ix2 (line b p) h) = _
  simp only [V, List.flatten_cons, List.flatten_nil, List.cons_append, List.nil_append]
  entry_read
  pointwise
  simp only [hd, hm]

/-- So reads the mask's block at any grid point. -/
theorem iblk2_apply (c : Dev nD) (t : Fin cfg0.N) (b : Fin 16) (k : Fin 4096) :
    (show Vec Ideal S16x4096 .f32 from iblk m c 2 t) (ix2 b k) = if k.val / 256 = b.val then 1 else 0 := by
  rw [← mask_apply m c]
  blk_ext [iblk, idx0 t]

/-- The patterns' block at any grid point is the given patterns. -/
theorem iblk1_apply (c : Dev nD) (t : Fin cfg0.N) (b : Fin 16) (p h : Fin 256) :
    (show Vec Ideal S4096x256 .f32 from iblk m c 1 t) (ix2 (line b p) h) = (m ((c : Thread nD τ).loc main_arg1) : S16x256x256.Idx → EReal) (ix3 b p h) := by
  rw [← lines_apply m c]
  blk_ext [iblk, idx0 t]

/-- The input's block at grid point `t` is the input of step `t`. -/
theorem iblk0_apply (c : Dev nD) (t : Fin cfg0.N) (b : Fin 16) (h : Fin 256) (ht : t.val < 128) :
    (show Vec Ideal S1x16x256 .f32 from iblk m c 0 t) (ix3 0 b h) = (m ((c : Thread nD τ).loc main_arg0) : S128x16x256.Idx → EReal) (ix3 ⟨t.val, ht⟩ b h) := by
  blk_ext [iblk, V, idx0 t]

/-- The first point leaves a step over the given patterns. -/
theorem outs_first (c : Dev nD) (t : Fin cfg0.N) (h0 : t.val % 128 = 0) :
    outsAt0 m c t.val t.isLt = step (k0_pay5 (iblk m c 1 t)) (iblk m c 0 t) (iblk m c 2 t) := by
  rw [outsAt0_A m c t h0]
  frame_out

/-- Any other point leaves a step over the patterns that the point before it kept. -/
theorem outs_next (c : Dev nD) (t : Fin cfg0.N) (h0 : ¬ t.val % 128 = 0) :
    outsAt0 m c t.val t.isLt
      = step (outsAt0 m c (t.val - 1) (Nat.lt_of_le_of_lt (Nat.sub_le _ _) t.isLt)).2.2 (iblk m c 0 t) (iblk m c 2 t) := by
  rw [outsAt0_B m c t h0]
  frame_out
  simp only [read_unread_whole]

/-- The patterns given. -/
abbrev P0 (c : Dev nD) : Pats := given (m ((c : Thread nD τ).loc main_arg1))

/-- The inputs, a step at a time. -/
abbrev xs (c : Dev nD) : ℕ → Rows := inputs (m ((c : Thread nD τ).loc main_arg0))

/-- The input that a grid point reads is the recurrence's. -/
theorem x_iblk (c : Dev nD) (t : Fin cfg0.N) : x (iblk m c 0 t) = xs m c t.val := by
  have ht : t.val < 128 := lt_of_lt_of_eq t.isLt N_0
  funext b h
  refine (iblk0_apply m c t b h ht).trans ?_
  simp only [xs, inputs, Nat.mod_eq_of_lt ht]

/-- The patterns that the first point starts from are the given ones. -/
theorem P_first (c : Dev nD) (t : Fin cfg0.N) : P (k0_pay5 (iblk m c 1 t)) = P0 m c := by
  funext b p h
  simp only [k0_pay5, shapeCast_self]
  exact iblk1_apply m c t b p h

/-- Every point `n` leaves a step over the recurrence's patterns before step `n`. -/
theorem outs (c : Dev nD) : ∀ (n : ℕ) (hn : n < cfg0.N), ∃ S : Vec Ideal S4096x256 .f32,
    P S = pats (P0 m c) (xs m c) n ∧ outsAt0 m c n hn = step S (iblk m c 0 ⟨n, hn⟩) (iblk m c 2 ⟨n, hn⟩)
  | 0, hn => ⟨_, P_first m c ⟨0, hn⟩, outs_first m c ⟨0, hn⟩ rfl⟩
  | n + 1, hn => by
    obtain ⟨S, hS, hs⟩ := outs c n (Nat.lt_of_succ_lt hn)
    refine ⟨_, ?_, outs_next m c ⟨n + 1, hn⟩ ?_⟩
    · show P (outsAt0 m c n (Nat.lt_of_succ_lt hn)).2.2 = _
      rw [hs, step_kept, hS, x_iblk]
      rfl
    · have hN : n + 1 < 128 := lt_of_lt_of_eq hn N_0
      show ¬ (n + 1) % 128 = 0
      omega

/-- The mask read at a pattern's column. -/
theorem hmask (c : Dev nD) (t : Fin cfg0.N) (b d : Fin 16) (p : Fin 256) :
    (show Vec Ideal S16x4096 .f32 from iblk m c 2 t) (ix2 b (line d p)) = if d = b then 1 else 0 := by
  rw [iblk2_apply]
  refine if_congr ?_ rfl rfl
  simp only [line, Fin.ext_iff]
  omega

/-- The first result: the output of step `t`. -/
theorem G3_apply (c : Dev nD) (t : Fin 128) (b : Fin 16) (h : Fin 256) :
    (G3 m c : S128x16x256.Idx → EReal) (ix3 t b h) = stepOut (pats (P0 m c) (xs m c) t.val) (xs m c t.val) b h := by
  have hp : pt3Of (ix3 t b h) = t.val := by
    show 1 * (t.val / 1 - 0) + 1 * (b.val / 16 - 0) + 1 * (h.val / 256 - 0) = t.val
    omega
  have hl : loc3Of (ix3 t b h) = ix3 0 b h := by
    funext a
    match a with
    | ⟨0, _⟩ => exact Fin.ext (show t.val % 1 = 0 by omega)
    | ⟨1, _⟩ => exact Fin.ext (show b.val % 16 = b.val by omega)
    | ⟨2, _⟩ => exact Fin.ext (show h.val % 256 = h.val by omega)
  have ht : t.val < cfg0.N := lt_of_lt_of_eq t.isLt N_0.symm
  unfold G3
  obtain ⟨S, hS, hs⟩ := outs m c t.val ht
  rw [dif_pos (by rw [hp]; exact ht), hl]
  simp only [hp]
  rw [← outsAt0_sweep m c t.val ht, hs]
  rw [step_out _ _ _ (hmask m c _), hS, x_iblk]

/-- The second result: the patterns after step `t`, line by line. -/
theorem G4_apply (c : Dev nD) (t : Fin 128) (b : Fin 16) (p h : Fin 256) :
    (G4 m c : S128x4096x256.Idx → EReal) (ix3 t (line b p) h) = pats (P0 m c) (xs m c) (t.val + 1) b p h := by
  have hp : pt4Of (ix3 t (line b p) h) = t.val := by
    show 1 * (t.val / 1 - 0) + 1 * ((line b p).val / 4096 - 0) + 1 * (h.val / 256 - 0) = t.val
    omega
  have hl : loc4Of (ix3 t (line b p) h) = ix3 0 (line b p) h := by
    funext a
    match a with
    | ⟨0, _⟩ => exact Fin.ext (show t.val % 1 = 0 by omega)
    | ⟨1, _⟩ => exact Fin.ext (show (line b p).val % 4096 = (line b p).val by omega)
    | ⟨2, _⟩ => exact Fin.ext (show h.val % 256 = h.val by omega)
  have ht : t.val < cfg0.N := lt_of_lt_of_eq t.isLt N_0.symm
  unfold G4
  obtain ⟨S, hS, hs⟩ := outs m c t.val ht
  rw [dif_pos (by rw [hp]; exact ht), hl]
  simp only [hp]
  rw [← outsAt0_sweep m c t.val ht, hs]
  rw [step_pats, hS, x_iblk]
  rfl

end Cert.Proof.KRun

end
-- ==== Proof.RefStep.lean ====
/-
  One trip of the reference's loop, read at an index operation by operation down to `stepPat` and `stepOut` (`Math`).
-/
module

public import proofs.«01_k».proof.Proof.Math
public import proofs.«01_k».proof.Proof.Gen.ReferenceIdeal.Run
public import Idealize.ShloMosaic.Lib.Tactic.CleanTypes

@[expose] public section

set_option maxRecDepth 16384

noncomputable section

namespace Cert.Proof.RefStep

open Idealize.ShloMosaic Idealize.ShloMosaic.TcCoe Cert.ReferenceIdeal Cert.ReferenceIdeal.Gen Cert.ReferenceIdeal.Value
open Cert.Proof.Math

variable (W : Valuation τ sig (Elt Ideal))

/-- The carried patterns, by coordinates. -/
def P : Pats := fun b p h => (W (Proc.devRef .tc main_v2_2) : S16x256x256.Idx → EReal) (ix3 b p h)
/-- The step's input, by coordinates. -/
def x : Rows := fun b h => (res_main_while0b_v4 W : S16x256.Idx → EReal) (ix2 b h)

/-- The similarity of each pattern with the input. -/
theorem v5_apply (b : Fin 16) (p : Fin 256) :
    (res_main_while0b_v5 W : S16x256.Idx → EReal) (ix2 b p) = raw (P W) (x W) b p := by
  unfold res_main_while0b_v5
  clean_types
  pointwise
  rfl

/-- The largest similarity of each batch entry. -/
theorem v7_apply (b : Fin 16) (q : Fin 1) :
    (res_main_while0b_v7 W : S16x1.Idx → EReal) (ix2 b q) = top (raw (P W) (x W)) b := by
  unfold res_main_while0b_v7
  clean_types
  pointwise [v5_apply]
  rfl

/-- The logits. -/
theorem v16_apply (b : Fin 16) (p : Fin 256) :
    (res_main_while0b_v16 W : S16x256.Idx → EReal) (ix2 b p) = logit (raw (P W) (x W)) b p := by
  unfold res_main_while0b_v16
  clean_types
  pointwise [v5_apply, v7_apply]
  simp only [logit, id]
  pointwise

/-- The exponentials of the logits less the largest. -/
theorem v23_apply (b : Fin 16) (p : Fin 256) :
    (res_main_while0b_v23 W : S16x256.Idx → EReal) (ix2 b p) = shifted (logit (raw (P W) (x W))) b p := by
  unfold res_main_while0b_v23
  clean_types
  pointwise [v16_apply]
  rw [max_eq_right ((Finset.le_fold_max _).mpr (.inl le_rfl))]
  rfl

/-- The responses. -/
theorem v27_apply (b : Fin 16) (p : Fin 256) :
    (res_main_while0b_v27 W : S16x256.Idx → EReal) (ix2 b p) = resp (P W) (x W) b p := by
  unfold res_main_while0b_v27
  clean_types
  pointwise [v23_apply]
  rfl

/-- The patterns moved towards the input. -/
theorem v38_apply (b : Fin 16) (p h : Fin 256) :
    (res_main_while0b_v38 W : S16x256x256.Idx → EReal) (ix3 b p h) = moved (P W) (x W) (resp (P W) (x W)) b p h := by
  unfold res_main_while0b_v38
  clean_types
  pointwise [v27_apply]
  rfl

/-- The new patterns: those over their lengths. -/
theorem v43_apply (b : Fin 16) (p h : Fin 256) :
    (res_main_while0b_v43 W : S16x256x256.Idx → EReal) (ix3 b p h) = stepPat (P W) (x W) b p h := by
  unfold res_main_while0b_v43
  clean_types
  pointwise [v38_apply]
  rfl

/-- The output: the patterns weighted by their responses. -/
theorem out_apply (b : Fin 16) (h : Fin 256) :
    (Host.dotGeneral (F := Ideal) (φ₁ := .f32) (φ₂ := .f32) dot_S16x256x256_S16x256_S16x256_1_1_2_n_0_0 none (W (Proc.devRef .tc main_v2_2)) (res_main_while0b_v27 W) : S16x256.Idx → EReal) (ix2 b h) = stepOut (P W) (x W) b h := by
  clean_types
  pointwise [v27_apply]
  rfl

end Cert.Proof.RefStep

end
-- ==== Proof.RefRun.lean ====
/-
  The reference's run: 128 trips of one loop that carries the inputs, a counter, the patterns and the two result
  arrays. After `n` trips (`At`) the counter is `n`, the patterns are the recurrence's before step `n`, and the slices
  below `n` of the results are filled. A trip reads the counter's slice of the inputs and fills the counter's slice
  of each result.
-/
module

public import proofs.«01_k».proof.Proof.RefStep
public import Idealize.ShloMosaic.Lib.DynamicIndex
public import Idealize.ShloMosaic.Lib.Pipeline.Value
public import Idealize.ShloMosaic.Lib.Claim
public import Idealize.ShloMosaic.Lib.Tactic.CleanTypes

@[expose] public section

set_option maxRecDepth 16384

noncomputable section

namespace Cert.Proof.RefRun

open Idealize.ShloMosaic Idealize.ShloMosaic.TcCoe Idealize.SL.Sem Cert.ReferenceIdeal Cert.ReferenceIdeal.Gen Cert.ReferenceIdeal.Value
open Cert.Proof.Math Cert.Proof.RefStep Idealize.ShloMosaic.StableHlo

/-- A slice of one step's length at step `k`, at an index. -/
theorem slice_apply (X : S128x16x256.Idx → EReal) (start : Fin S128x16x256.rank → Int) (k : Fin 128) (hs : ∀ a, start a = ((![k.val, 0, 0] : Fin 3 → ℕ) a : Int))
    (b : Fin 16) (h : Fin 256) :
    Host.dynamicSlice S1x16x256 X start sliceFits_S128x16x256_S1x16x256 (ix3 0 b h) = X (ix3 k b h) := by
  rw [Host.dynamicSlice_eq_extractStridedSlice S1x16x256 X start ![k.val, 0, 0] _ ⟨rfl, fun a => by
    match a with
    | ⟨0, _⟩ => exact (show k.val + 1 ≤ 128 by omega)
    | ⟨1, _⟩ => exact (show 0 + 16 ≤ 16 by omega)
    | ⟨2, _⟩ => exact (show 0 + 256 ≤ 256 by omega)⟩ hs]
  pointwise

/-- An update of one step's slice of the outputs at step `k`, at an index. -/
theorem update3_apply (X : S128x16x256.Idx → EReal) (Y : S1x16x256.Idx → EReal) (start : Fin S128x16x256.rank → Int) (k : Fin 128) (hs : ∀ a, start a = ((![k.val, 0, 0] : Fin 3 → ℕ) a : Int))
    (t : Fin 128) (b : Fin 16) (h : Fin 256) :
    Host.dynamicUpdateSlice X Y start updateFits_S128x16x256_S1x16x256 (ix3 t b h)
      = if t.val = k.val then Y (ix3 0 b h) else X (ix3 t b h) := by
  rw [Host.dynamicUpdateSlice_eq_updateSlice X Y start _ ![k.val, 0, 0] (fun a => by
    rw [hs a]
    match a with
    | ⟨0, _⟩ => exact (show (min (max (k.val : Int) 0) ((128 - 1 : ℕ) : Int)).toNat = k.val by omega)
    | ⟨1, _⟩ => rfl
    | ⟨2, _⟩ => rfl) ⟨rfl, fun a => by
    match a with
    | ⟨0, _⟩ => exact (show k.val + 1 ≤ 128 by omega)
    | ⟨1, _⟩ => exact (show 0 + 16 ≤ 16 by omega)
    | ⟨2, _⟩ => exact (show 0 + 256 ≤ 256 by omega)⟩]
  pointwise
  split
  · next hb =>
    rw [if_pos (by omega)]
    exact congrArg Y (congrArg (fun a => ix3 a b h) (Fin.ext (show t.val - k.val = 0 by omega)))
  · next hb => rw [if_neg (by omega)]

/-- An update of one step's slice of the patterns' array at step `k`, at an index. -/
theorem update4_apply (X : S128x16x256x256.Idx → EReal) (Y : S1x16x256x256.Idx → EReal) (start : Fin S128x16x256x256.rank → Int) (k : Fin 128) (hs : ∀ a, start a = ((![k.val, 0, 0, 0] : Fin 4 → ℕ) a : Int))
    (t : Fin 128) (b : Fin 16) (p h : Fin 256) :
    Host.dynamicUpdateSlice X Y start updateFits_S128x16x256x256_S1x16x256x256 (ix4 t b p h)
      = if t.val = k.val then Y (ix4 0 b p h) else X (ix4 t b p h) := by
  rw [Host.dynamicUpdateSlice_eq_updateSlice X Y start _ ![k.val, 0, 0, 0] (fun a => by
    rw [hs a]
    match a with
    | ⟨0, _⟩ => exact (show (min (max (k.val : Int) 0) ((128 - 1 : ℕ) : Int)).toNat = k.val by omega)
    | ⟨1, _⟩ => rfl
    | ⟨2, _⟩ => rfl
    | ⟨3, _⟩ => rfl) ⟨rfl, fun a => by
    match a with
    | ⟨0, _⟩ => exact (show k.val + 1 ≤ 128 by omega)
    | ⟨1, _⟩ => exact (show 0 + 16 ≤ 16 by omega)
    | ⟨2, _⟩ => exact (show 0 + 256 ≤ 256 by omega)
    | ⟨3, _⟩ => exact (show 0 + 256 ≤ 256 by omega)⟩]
  pointwise
  split
  · next hb =>
    rw [if_pos (by omega)]
    exact congrArg Y (congrArg (fun a => ix4 a b p h) (Fin.ext (show t.val - k.val = 0 by omega)))
  · next hb => rw [if_neg (by omega)]

/-- A step's number as a word, read signed, is that number. -/
theorem toInt_step (k : Fin 128) : (BitVec.ofNat 32 k.val).toInt = (k.val : Int) :=
  toInt_ofNat_of_lt (by omega)

section
variable (W : Valuation τ sig (Elt Ideal)) (k : Fin 128)
  (hW : W (Proc.devRef .tc main_v2_1) = fun _ => BitVec.ofNat 32 k.val)
include hW

/-- A trip's input is the counter's slice of the inputs. -/
theorem x_apply : x W = fun b h => (W (Proc.devRef .tc main_v2_0) : S128x16x256.Idx → EReal) (ix3 k b h) := by
  funext b h
  unfold x res_main_while0b_v4
  rw [hW]
  refine Eq.trans ?_ (slice_apply _ (fun a => (((![fun _ => BitVec.ofNat 32 k.val, constantI S_ 32 0#32, constantI S_ 32 0#32] : Fin 3 → S_.Idx → BitVec 32)) a (Shape.Idx.first h_S_)).toInt) k (fun a => ?_) b h)
  · generalize Host.dynamicSlice S1x16x256 (W (Proc.devRef .tc main_v2_0)) _ _ = Z
    clean_types
    pointwise
  · match a with
    | ⟨0, _⟩ => exact toInt_step k
    | ⟨1, _⟩ => rfl
    | ⟨2, _⟩ => rfl

/-- A trip puts its output into the counter's slice of the first result and keeps the others. -/
theorem outs_apply (t : Fin 128) (b : Fin 16) (h : Fin 256) :
    (step_main_v2_3 W : S128x16x256.Idx → EReal) (ix3 t b h)
      = if t.val = k.val then stepOut (P W) (x W) b h else (W (Proc.devRef .tc main_v2_3) : S128x16x256.Idx → EReal) (ix3 t b h) := by
  unfold step_main_v2_3
  rw [hW, ← out_apply]
  refine (update3_apply _ _ _ k (fun a => ?_) t b h).trans (if_congr Iff.rfl ?_ rfl)
  · match a with
    | ⟨0, _⟩ => exact toInt_step k
    | ⟨1, _⟩ => rfl
    | ⟨2, _⟩ => rfl
  · generalize Host.dotGeneral (F := Ideal) (φ₁ := .f32) (φ₂ := .f32) dot_S16x256x256_S16x256_S16x256_1_1_2_n_0_0 none (W (Proc.devRef .tc main_v2_2)) (res_main_while0b_v27 W) = D
    pointwise

/-- A trip puts its new patterns into the counter's slice of the second result and keeps the others. -/
theorem pats_apply (t : Fin 128) (b : Fin 16) (p h : Fin 256) :
    (step_main_v2_4 W : S128x16x256x256.Idx → EReal) (ix4 t b p h)
      = if t.val = k.val then stepPat (P W) (x W) b p h else (W (Proc.devRef .tc main_v2_4) : S128x16x256x256.Idx → EReal) (ix4 t b p h) := by
  unfold step_main_v2_4
  rw [hW, ← v43_apply]
  refine (update4_apply _ _ _ k (fun a => ?_) t b p h).trans (if_congr Iff.rfl ?_ rfl)
  · match a with
    | ⟨0, _⟩ => exact toInt_step k
    | ⟨1, _⟩ => rfl
    | ⟨2, _⟩ => rfl
    | ⟨3, _⟩ => rfl
  · generalize res_main_while0b_v43 W = D
    clean_types
    pointwise
end

variable (m : (ℓ : Loc nD τ sig) → Buf (Elt Ideal) ℓ) (c : Dev nD)

/-- The contents the loop starts from. -/
abbrev E : Valuation τ sig (Elt Ideal) := entryContents preI m c

/-- The loop starts from the given inputs. -/
theorem entry_v2_0 : E m c (Proc.devRef .tc main_v2_0) = m ((c : Thread nD τ).loc main_arg0) := by
  simp only [entryContents, afterL_cons, afterL_nil]
  after_reads_simp
  rfl

/-- The loop starts from the given patterns. -/
theorem entry_v2_2 : E m c (Proc.devRef .tc main_v2_2) = m ((c : Thread nD τ).loc main_arg1) := by
  simp only [entryContents, afterL_cons, afterL_nil]
  after_reads_simp
  rfl

/-- The patterns given. -/
abbrev P0 : Pats := given (m ((c : Thread nD τ).loc main_arg1))

/-- The inputs, a step at a time. -/
abbrev xs : ℕ → Rows := inputs (m ((c : Thread nD τ).loc main_arg0))

/-- What the loop carries after `n` trips. -/
structure At (n : ℕ) (W : Valuation τ sig (Elt Ideal)) : Prop where
  input : W (Proc.devRef .tc main_v2_0) = m ((c : Thread nD τ).loc main_arg0)
  count : W (Proc.devRef .tc main_v2_1) = fun _ => BitVec.ofNat 32 n
  pat : P W = pats (P0 m c) (xs m c) n
  outs : ∀ (t : Fin 128) (b : Fin 16) (h : Fin 256), t.val < n →
    (W (Proc.devRef .tc main_v2_3) : S128x16x256.Idx → EReal) (ix3 t b h) = stepOut (pats (P0 m c) (xs m c) t.val) (xs m c t.val) b h
  pats : ∀ (t : Fin 128) (b : Fin 16) (p h : Fin 256), t.val < n →
    (W (Proc.devRef .tc main_v2_4) : S128x16x256x256.Idx → EReal) (ix4 t b p h) = pats (P0 m c) (xs m c) (t.val + 1) b p h

/-- Nothing is filled before the first trip. -/
theorem at_entry : At m c 0 (E m c) where
  input := entry_v2_0 m c
  count := ctr_entry m c
  pat := by
    funext b p h
    exact congrFun (entry_v2_2 m c) (ix3 b p h)
  outs := fun t b h ht => absurd ht (Nat.not_lt_zero _)
  pats := fun t b p h ht => absurd ht (Nat.not_lt_zero _)

/-- One trip. -/
theorem at_step (n : ℕ) (hn : n < 128) (W : Valuation τ sig (Elt Ideal)) (H : At m c n W) : At m c (n + 1) (STEP W) := by
  have hx : x W = xs m c n := by
    rw [x_apply W ⟨n, hn⟩ H.count, H.input]
    funext b h
    simp only [xs, inputs, Nat.mod_eq_of_lt hn]
  have hN : stepPat (P W) (x W) = Math.pats (P0 m c) (xs m c) (n + 1) := by
    rw [hx, H.pat]
    rfl
  refine ⟨?_, ?_, ?_, ?_, ?_⟩
  · rw [STEP_main_v2_0, H.input]
  · rw [STEP_main_v2_1]
    unfold step_main_v2_1
    rw [H.count]
    funext i
    show BitVec.ofNat 32 n + 1#32 = BitVec.ofNat 32 (n + 1)
    rw [BitVec.ofNat_add]
  · rw [← hN]
    funext b p h
    rw [← v43_apply]
    exact congrFun (STEP_main_v2_2 W) (ix3 b p h)
  · intro t b h ht
    rw [STEP_main_v2_3, outs_apply W ⟨n, hn⟩ H.count]
    split
    · next he =>
      rw [hx, H.pat, he]
    · next he =>
      exact H.outs t b h (lt_of_le_of_ne (Nat.le_of_lt_succ ht) he)
  · intro t b p h ht
    rw [STEP_main_v2_4, pats_apply W ⟨n, hn⟩ H.count]
    split
    · next he =>
      rw [hN, he]
    · next he =>
      exact H.pats t b p h (lt_of_le_of_ne (Nat.le_of_lt_succ ht) he)

/-- All trips. -/
theorem at_trip : ∀ n ≤ 128, At m c n (STEP^[n] (E m c))
  | 0, _ => at_entry m c
  | n + 1, hn => by
    rw [Function.iterate_succ_apply']
    exact at_step m c n hn _ (at_trip n (Nat.le_of_succ_le hn))

/-- The first result: the output of step `t`. -/
theorem out_final (t : Fin 128) (b : Fin 16) (h : Fin 256) :
    (STEP^[128] (E m c) (Proc.devRef .tc main_v2_3) : S128x16x256.Idx → EReal) (ix3 t b h)
      = stepOut (pats (P0 m c) (xs m c) t.val) (xs m c t.val) b h :=
  (at_trip m c 128 le_rfl).outs t b h t.isLt

/-- The second result: the patterns after step `t`, line by line. -/
theorem pats_final (t : Fin 128) (b : Fin 16) (p h : Fin 256) :
    (out_main_v3 (STEP^[128] (E m c)) : S128x4096x256.Idx → EReal) (ix3 t ⟨b.val * 256 + p.val, by omega⟩ h)
      = Math.pats (P0 m c) (xs m c) (t.val + 1) b p h := by
  rw [← (at_trip m c 128 le_rfl).pats t b p h t.isLt]
  unfold out_main_v3
  generalize (STEP^[128] (E m c)) (Proc.devRef .tc main_v2_4) = Z
  clean_types
  pointwise

end Cert.Proof.RefRun

end
-- ==== Proof.lean ====
/-
  The proof of `Cert.Claim`: the frames of the three programs, the idealization, and the equality of both results over
  the extended reals. Both programs' results are read down to one recurrence (`Proof/Math.lean`): the kernel's in
  `Proof/KStep.lean` (a step) and `Proof/KRun.lean` (the run), the reference's in `Proof/RefStep.lean` and
  `Proof/RefRun.lean`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.KRun
public import proofs.«01_k».proof.Proof.RefRun
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel as given runs, keeps its arguments and ends with every counter at zero. -/
theorem frame_kernel : quiescent_Kernel (hKernel := Cert.Kernel.Gen.facts) :=
  fun m ρ _ => Cert.Kernel.Gen.frame m ρ

/-- So does its idealization. -/
theorem frame_ideal : quiescent_KernelIdeal (hKernelIdeal := Cert.KernelIdeal.Gen.facts) :=
  fun m ρ _ => Cert.KernelIdeal.Gen.frame m ρ

/-- So does the reference, which has no counter at all. -/
theorem frame_reference : quiescent_ReferenceIdeal (hReferenceIdeal := Cert.ReferenceIdeal.Gen.facts) :=
  fun m ρ _ => (θ_run Cert.ReferenceIdeal.defs _ _).mono
    (fun r h => ⟨fun c => ⟨(h c).2.2.1, (h c).2.2.2⟩, Idealize.ShloMosaic.sem_eq_zero_of_no_sems (by decide) r.2⟩)
    (Cert.ReferenceIdeal.Value.run (F := Ideal) m ρ)

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)
  (h0 : m' ((c.tc : Thread Cert.ReferenceIdeal.nD Cert.ReferenceIdeal.τ).loc Cert.ReferenceIdeal.main_arg0)
    = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1)
    = m ((c.tc : Thread Cert.KernelIdeal.nD Cert.KernelIdeal.τ).loc Cert.KernelIdeal.main_arg1))
include h0 h1

/-- On equal arguments the two programs' first results are one array. -/
theorem outputs_eq :
    (Cert.ReferenceIdeal.Value.STEP^[128] (RefRun.E m' c)) (Proc.devRef .tc Cert.ReferenceIdeal.main_v2_3)
      = Cert.KernelIdeal.Value.G3 m c := by
  funext i
  rw [eq_ix3 (n0 := 128) (n1 := 16) (n2 := 256) i]
  refine (RefRun.out_final m' c _ _ _).trans (Eq.trans ?_ (KRun.G3_apply m c _ _ _).symm)
  simp only [RefRun.P0, RefRun.xs, KRun.P0, KRun.xs, h0, h1]

/-- So are their second results. -/
theorem patterns_eq :
    Cert.ReferenceIdeal.Value.out_main_v3 (Cert.ReferenceIdeal.Value.STEP^[128] (RefRun.E m' c))
      = Cert.KernelIdeal.Value.G4 m c := by
  funext i
  rw [eq_ix3 (n0 := 128) (n1 := 4096) (n2 := 256) i]
  obtain ⟨b, p, hk⟩ := KStep.exists_line (i 1)
  rw [hk]
  refine (RefRun.pats_final m' c _ b p _).trans (Eq.trans ?_ (KRun.G4_apply m c _ b p _).symm)
  simp only [RefRun.P0, RefRun.xs, KRun.P0, KRun.xs, h0, h1]
end

/-- Over the extended reals the kernel and the reference end with equal results. -/
theorem algebraic : algebraic_KernelIdeal_ReferenceIdeal (hKernelIdeal := Cert.KernelIdeal.Gen.facts)
    (hReferenceIdeal := Cert.ReferenceIdeal.Gen.facts) := by
  intro m ρ m' ρ' _ hagree
  refine ⟨_, _, Cert.KernelIdeal.Value.run m ρ, ?_⟩
  refine (θ_run _ _ _).mono (fun _ h c => ?_) (Cert.ReferenceIdeal.Value.run m' ρ')
  exact ⟨(h c).1.trans (outputs_eq m m' c (hagree c).1 (hagree c).2),
    (h c).2.1.trans (patterns_eq m m' c (hagree c).1 (hagree c).2), (h c).2.2⟩

/-- All the claims. -/
theorem claim : Cert.Claim := ⟨Cert.Kernel.Gen.facts, Cert.KernelIdeal.Gen.facts, Cert.ReferenceIdeal.Gen.facts,
  frame_kernel, frame_ideal, frame_reference, trivial, algebraic⟩

end Cert.Proof

end
